-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x64 : Shape := ⟨2, ![131072, 64]⟩
abbrev S64x64 : Shape := ⟨2, ![64, 64]⟩
abbrev S64x131072 : Shape := ⟨2, ![64, 131072]⟩
abbrev S8192x64 : Shape := ⟨2, ![8192, 64]⟩
abbrev S64x8192 : Shape := ⟨2, ![64, 8192]⟩
abbrev S64 : Shape := ⟨1, ![64]⟩
abbrev S1x64 : Shape := ⟨2, ![1, 64]⟩
abbrev S8x131072 : Shape := ⟨2, ![8, 131072]⟩
abbrev S1x131072 : Shape := ⟨2, ![1, 131072]⟩
abbrev S8x8x128 : Shape := ⟨3, ![8, 8, 128]⟩
abbrev S1x8x128 : Shape := ⟨3, ![1, 8, 128]⟩
abbrev S1x8x131072 : Shape := ⟨3, ![1, 8, 131072]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 13
  | .vmem => 19
  | .smem => 0
  | _ => 0

abbrev bufTy : (tb : Table) → Fin (tcTables nBuf tb) → BufTy
  | .hbm, ⟨0, _⟩ => ⟨S131072x64, .f32⟩
  | .hbm, ⟨1, _⟩ => ⟨S131072x64, .f32⟩
  | .hbm, ⟨2, _⟩ => ⟨S64x64, .f32⟩
  | .hbm, ⟨3, _⟩ => ⟨S64x131072, .f32⟩
  | .hbm, ⟨4, _⟩ => ⟨S64x131072, .f32⟩
  | .hbm, ⟨5, _⟩ => ⟨S64x131072, .f32⟩
  | .hbm, ⟨6, _⟩ => ⟨S8x8x128, .f32⟩
  | .hbm, ⟨7, _⟩ => ⟨S8x1x1, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x64, .f32⟩
  | .local _ .vmem, ⟨5, _⟩ => ⟨S64x8192, .f32⟩
  | .local _ .vmem, ⟨6, _⟩ => ⟨S64x8192, .f32⟩
  | .local _ .vmem, ⟨7, _⟩ => ⟨S64x8192, .f32⟩
  | .local _ .vmem, ⟨8, _⟩ => ⟨S64x8192, .f32⟩
  | .local _ .vmem, ⟨9, _⟩ => ⟨S8x131072, .f32⟩
  | .local _ .vmem, ⟨10, _⟩ => ⟨S8x131072, .f32⟩
  | .local _ .vmem, ⟨11, _⟩ => ⟨S8x131072, .f32⟩
  | .local _ .vmem, ⟨12, _⟩ => ⟨S8x131072, .f32⟩
  | .local _ .vmem, ⟨13, _⟩ => ⟨S8x131072, .f32⟩
  | .local _ .vmem, ⟨14, _⟩ => ⟨S8x131072, .f32⟩
  | .local _ .vmem, ⟨15, _⟩ => ⟨S8x131072, .f32⟩
  | .local _ .vmem, ⟨16, _⟩ => ⟨S8x131072, .f32⟩
  | .local _ .vmem, ⟨17, _⟩ => ⟨S1x8x128, .f32⟩
  | .local _ .vmem, ⟨18, _⟩ => ⟨S1x8x128, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c153_i32 : BitVec 32 := 153#32
  let v3 : BitVec 32 := Scalar.addi c0_i32 c153_i32
  let c1_i32_1 : BitVec 32 := 1#32
  ⟨c0_i32, v3, c1_i32_1⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x131072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

@[reducible] def k2_t1_loop : Scf.Loop 32 :=
  let c0_i32 : BitVec 32 := 0#32
  let c153_i32 : BitVec 32 := 153#32
  let v3 : BitVec 32 := Scalar.addi c0_i32 c153_i32
  let c1_i32_1 : BitVec 32 := 1#32
  ⟨c0_i32, v3, c1_i32_1⟩
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x131072 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x131072 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S131072x64 : Shape := ⟨2, ![131072, 64]⟩
abbrev S64x64 : Shape := ⟨2, ![64, 64]⟩
abbrev S_ : Shape := ⟨0, ![]⟩
abbrev S64 : Shape := ⟨1, ![64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S131072x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S_, .f32⟩
  | .hbm, ⟨9, _⟩ => ⟨S1x64, .f32⟩
  | .hbm, ⟨10, _⟩ => ⟨S1x64, .f32⟩
  | .hbm, ⟨11, _⟩ => ⟨S64x64, .f32⟩
  | .hbm, ⟨12, _⟩ => ⟨S64x64, .f32⟩
  | .hbm, ⟨13, _⟩ => ⟨S131072x64, .f32⟩
  | .hbm, ⟨14, _⟩ => ⟨S131072x64, .f32⟩
  | .hbm, ⟨15, _⟩ => ⟨S131072x64, .f32⟩
  | .hbm, ⟨16, _⟩ => ⟨S131072x64, .f32⟩
  | .hbm, ⟨17, _⟩ => ⟨S131072x64, .f32⟩
  | .hbm, ⟨18, _⟩ => ⟨S131072x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Proof.KernelRun.lean ====
/- THE KERNEL PROGRAM'S RUN, READ AT ITS RESULT. The generated frame certificate follows the contents of every buffer
   through the three launches and the closing host operations (`W0` to `W4`); here the same launch is read at the result
   buffer as well as at the arguments. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel program terminates with the result buffer at the last boundary's
    contents `W4` and the three arguments as launched. -/
theorem result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Run

end
-- ==== Proof.SortPass.lean ====
/- ONE COMPARE-EXCHANGE PASS OF THE SORTING LOOP. Each trip of the kernel's loop takes a block of eight rows and two words
   `k` and `j`. For `k = 2^(l+1)` and `j = 2^s` every row goes through the stage at distance `2^s` of the bitonic sorting
   network on `2^17` positions, in the direction that level `l` prescribes. -/
module

public import proofs.«01_k».proof.Proof.Gen.KernelIdeal.Frame
public import Idealize.ShloMosaic.Lib.SortNet.Sorts
public import Idealize.ShloMosaic.Lib.SortNet.Printed
public import Idealize.ShloMosaic.Lib.Pointwise
public import Idealize.ShloMosaic.Lib.Pipeline.Value

@[expose] public section

set_option maxRecDepth 16384

noncomputable section

namespace Cert.KernelIdeal.Sorting

open Cert.KernelIdeal Cert.KernelIdeal.Gen
open Idealize.ShloMosaic Idealize.ShloMosaic.SortNet

/-- The index of position `i` of row `r` in an array of `n` rows of `2^17` entries. -/
def at2 {n : Nat} (r : Fin n) (i : Fin (2 ^ 17)) : (⟨2, ![n, 131072]⟩ : Shape).Idx :=
  Idealize.ShloMosaic.ix2 r (⟨i.val, i.isLt⟩ : Fin 131072)

/-- Row `r` of an array of `n` rows, as a vector of `2^17` entries. -/
def row {α : Type} {n : Nat} (v : (⟨2, ![n, 131072]⟩ : Shape).Idx → α) (r : Fin n) : Fin (2 ^ 17) → α :=
  fun i => v (at2 r i)

/-- The positions of row `r`, placed along the second axis. -/
def rowColumn {n : Nat} (r : Fin n) : Column (⟨2, ![n, 131072]⟩ : Shape) 1 17 where
  col := at2 r
  size_eq := by show 131072 = 2 ^ 17; decide
  coord := fun _ => rfl
  other := fun i i' b hb => by
    match b, hb with
    | ⟨0, _⟩, _ => rfl
    | ⟨1, _⟩, hb => exact absurd rfl hb

/-- The printed test "the position shares no bit with the word `2^t`" is the bit `t` of the position being clear. -/
theorem clear_apply (d : BitVec 32) {t : Nat} (hd : d.toNat = 2 ^ t) (i : Fin (2 ^ 17)) :
    cmpi .eq (andi (iota .tc S1x131072 32 [1] iota_S1x131072_d1_w32) (broadcast S1x131072 d)) (broadcast S1x131072 0#32)
      (at2 0 i) = BitVec.ofBool (decide (i.val &&& 2 ^ t = 0)) := by
  have hi : i.val < 2 ^ 32 := Nat.lt_of_lt_of_le i.isLt (by decide)
  have hpos := (rowColumn (n := 1) 0).iota_apply .tc iota_S1x131072_d1_w32 i
  show BitVec.ofBool (IntOp.andi (iota .tc S1x131072 32 [1] iota_S1x131072_d1_w32 (at2 0 i)) d == 0#32) = _
  rw [show iota .tc S1x131072 32 [1] iota_S1x131072_d1_w32 (at2 0 i) = BitVec.ofNat 32 i.val from hpos]
  congr 1
  rw [Bool.eq_iff_iff, beq_iff_eq, decide_eq_true_eq, and_distance_eq_zero_iff hi d hd]

/-- A mask given once for all rows reads the same at every row. -/
theorem mask_apply (x : IVec S1x131072 1) (r : Fin 8) (i : Fin (2 ^ 17)) :
    broadcastTo S8x131072 (shapeCast S1x131072 x shapeCasts_S1x131072_S1x131072) broadcasts_S1x131072_S8x131072 (at2 r i)
      = x (at2 0 i) := by
  rw [shapeCast_self, Pointwise.broadcastTo_apply]
  congr 1
  funext b
  match b with
  | ⟨0, _⟩ => rfl
  | ⟨1, _⟩ => rfl

/-- The direction of the ascending network at level `l`: the greater entry goes low exactly when bit `l+1` is set. -/
def dir (l : Nat) (i : Fin (2 ^ 17)) : Bool := decide (i.val &&& 2 ^ (l + 1) = 0) == false

/-- Directions agree at a position and its partner, whose bits above `s` are the same. -/
theorem dir_partner {l s : Nat} (hs : s < 17) (hsl : s ≤ l) (i : Fin (2 ^ 17)) : dir l (partner 17 s i) = dir l i := by
  unfold dir
  have h : (partner 17 s i).val &&& 2 ^ (l + 1) = 0 ↔ i.val &&& 2 ^ (l + 1) = 0 := by
    rw [and_two_pow_eq_zero_iff_testBit, and_two_pow_eq_zero_iff_testBit, partner_val hs, Nat.testBit_xor,
      Nat.testBit_two_pow, decide_eq_false (by omega), Bool.xor_false]
  rw [decide_eq_decide.mpr h]

/-- One pass sends every row through one stage of the sorting network. -/
theorem pass_row (a : FVec Ideal S8x131072 .f32) (k j : BitVec 32) {l s : Nat} (hs : s < 17) (hsl : s ≤ l)
    (hk : k.toNat = 2 ^ (l + 1)) (hj : j.toNat = 2 ^ s) (r : Fin 8) :
    row (k1_pay2 a k j) r = Network.apply (stage 17 s (dir l)) (row a r) := by
  funext i
  have hnj : (Scalar.subi 131072#32 j).toNat = 2 ^ 17 - 2 ^ s := by
    have h1 : 2 ^ s < 2 ^ 17 := Nat.pow_lt_pow_right (by decide) hs
    show (131072#32 - j).toNat = _
    rw [BitVec.toNat_sub_of_le (by rw [BitVec.le_def, hj]; exact h1.le), hj]
    rfl
  show k1_pay2 a k j (at2 r i) = _
  unfold k1_pay2
  dsimp only
  simp only [SortNet.select_apply, mask_apply, clear_apply k hk, clear_apply j hj, SortNet.select_ofBool]
  show (if decide (i.val &&& 2 ^ s = 0) = true then
      if decide (i.val &&& 2 ^ (l + 1) = 0) = true then
        min (a (at2 r i)) (dynamicRotate 1 (Scalar.subi 131072#32 j) none a rotates_S8x131072_d1 (at2 r i))
      else max (a (at2 r i)) (dynamicRotate 1 (Scalar.subi 131072#32 j) none a rotates_S8x131072_d1 (at2 r i))
    else
      if decide (i.val &&& 2 ^ (l + 1) = 0) = true then
        max (a (at2 r i)) (dynamicRotate 1 j none a rotates_S8x131072_d1 (at2 r i))
      else min (a (at2 r i)) (dynamicRotate 1 j none a rotates_S8x131072_d1 (at2 r i))) = _
  by_cases hi : i.val &&& 2 ^ s = 0
  · have hr : dynamicRotate 1 (Scalar.subi 131072#32 j) none a rotates_S8x131072_d1 (at2 r i)
        = a (at2 r (partner 17 s i)) :=
      (rowColumn r).rotate_of_clear hs _ hnj a rotates_S8x131072_d1 i hi
    rw [(apply_stage hs (dir l) (row a r) i hi).1, hr, if_pos (decide_eq_true hi)]
    unfold dir
    by_cases hd : i.val &&& 2 ^ (l + 1) = 0
    · rw [decide_eq_true hd]; rfl
    · rw [decide_eq_false hd]; rfl
  · have hr : dynamicRotate 1 j none a rotates_S8x131072_d1 (at2 r i) = a (at2 r (partner 17 s i)) :=
      (rowColumn r).rotate_of_set hs _ hj a rotates_S8x131072_d1 i hi
    have e := (apply_stage hs (dir l) (row a r) (partner 17 s i) (partner_and_of_set hs i hi)).2
    rw [partner_partner hs, dir_partner hs hsl] at e
    rw [e, hr, if_neg (by rw [decide_eq_true_eq]; exact hi)]
    unfold dir
    by_cases hd : i.val &&& 2 ^ (l + 1) = 0
    · rw [decide_eq_true hd]; exact max_comm _ _
    · rw [decide_eq_false hd]; exact min_comm _ _

end Cert.KernelIdeal.Sorting
-- ==== Proof.SortLoop.lean ====
/- THE WHOLE SORTING LOOP. The loop carries a block of eight rows and two words `k` and `j`, starting from `k = 2` and
   `j = 1`. The words run through the schedule of the bitonic sorting network on `2^17` positions, one stage per trip, and
   the 153 trips are exactly its stages. So after the loop every row is the sorted row: in ascending order, and a
   rearrangement of the row the loop started from. -/
module

public import proofs.«01_k».proof.Proof.SortPass

@[expose] public section

set_option maxRecDepth 16384

noncomputable section

namespace Cert.KernelIdeal.Sorting

open Cert.KernelIdeal Cert.KernelIdeal.Gen
open Idealize.ShloMosaic Idealize.ShloMosaic.SortNet

/-- The two words after a trip: halve `j`; once `j` has reached one, double `k` and restart `j` at the old `k`. -/
def next (p : BitVec 32 × BitVec 32) : BitVec 32 × BitVec 32 :=
  (Scalar.select (Scalar.cmpi .eq p.2 1#32) (Scalar.muli p.1 2#32) p.1,
   Scalar.select (Scalar.cmpi .eq p.2 1#32) p.1
     (Scalar.select
       (Scalar.andi
         (Scalar.cmpi .ne
           (Scalar.subi (Scalar.extui (Scalar.cmpi .sgt p.2 0#32)) (Scalar.extui (Scalar.cmpi .slt p.2 0#32)))
           (Scalar.subi (Scalar.extui (Scalar.cmpi .sgt 2#32 0#32)) (Scalar.extui (Scalar.cmpi .slt 2#32 0#32))))
         (Scalar.cmpi .ne (Scalar.remsi p.2 2#32) 0#32))
       (Scalar.subi (Scalar.divsi p.2 2#32) 1#32)
       (Scalar.divsi p.2 2#32)))

/-- What one trip makes of the carried block and words. -/
def trip (x : FVec Ideal S8x131072 .f32 × BitVec 32 × BitVec 32) : FVec Ideal S8x131072 .f32 × BitVec 32 × BitVec 32 :=
  (k1_pay2 x.1 x.2.1 x.2.2, next x.2)

/-- The network's stages in order: level `l`, then the distances `2^l` down to one. -/
def sched : List (ℕ × ℕ) :=
  (List.range 17).flatMap fun l => (List.range (l + 1)).reverse.map fun s => (l, s)

/-- There are 153 stages. -/
theorem sched_length : sched.length = 153 := by decide +kernel

/-- At trip `t` the two words are the block length and the distance of the `t`-th stage. -/
theorem words_at : ∀ t : Fin 153,
    (next^[t.val] (2#32, 1#32)).1.toNat = 2 ^ ((sched.getD t.val (0, 0)).1 + 1)
    ∧ (next^[t.val] (2#32, 1#32)).2.toNat = 2 ^ (sched.getD t.val (0, 0)).2
    ∧ (sched.getD t.val (0, 0)).2 < 17
    ∧ (sched.getD t.val (0, 0)).2 ≤ (sched.getD t.val (0, 0)).1 := by decide +kernel

/-- The stages of a schedule, one after another. -/
def netOf (ps : List (ℕ × ℕ)) : Network (2 ^ 17) := ps.flatMap fun p => stage 17 p.2 (dir p.1)

/-- The whole schedule is the ascending bitonic sorting network. -/
theorem netOf_sched : netOf sched = sortNet 17 false := by
  unfold netOf sched sortNet
  rw [List.flatMap_assoc]
  simp only [List.flatMap_map]
  rfl

/-- After `t` trips the words are the `t`-th ones and every row has gone through the first `t` stages. -/
theorem trips_spec (a : FVec Ideal S8x131072 .f32) (t : ℕ) (ht : t ≤ 153) :
    (trip^[t] (a, 2#32, 1#32)).2 = next^[t] (2#32, 1#32)
    ∧ ∀ r : Fin 8, row (trip^[t] (a, 2#32, 1#32)).1 r = Network.apply (netOf (sched.take t)) (row a r) := by
  induction t with
  | zero => exact ⟨rfl, fun r => by rw [List.take_zero]; rfl⟩
  | succ t ih =>
    obtain ⟨ih2, ih1⟩ := ih (by omega)
    have hw := words_at ⟨t, by omega⟩
    dsimp only at hw
    rw [← ih2] at hw
    obtain ⟨hk, hj, hs, hsl⟩ := hw
    have hlt : t < sched.length := by rw [sched_length]; omega
    rw [Function.iterate_succ_apply', Function.iterate_succ_apply', ← ih2]
    refine ⟨rfl, fun r => ?_⟩
    have h := pass_row (trip^[t] (a, 2#32, 1#32)).1 _ _ hs hsl hk hj r
    rw [ih1 r] at h
    rw [List.take_add_one, netOf, List.flatMap_append, Network.apply_append]
    refine Eq.trans h ?_
    rw [List.getD_eq_getElem?_getD, List.getElem?_eq_getElem hlt]
    simp only [Option.getD_some, Option.toList_some, List.flatMap_cons, List.flatMap_nil, List.append_nil]
    rfl

/-- The loop's fold over its trips. -/
def looped (a : FVec Ideal S8x131072 .f32) : FVec Ideal S8x131072 .f32 := (trip^[153] (a, 2#32, 1#32)).1

/-- After the loop every row has gone through the whole network. -/
theorem looped_row (a : FVec Ideal S8x131072 .f32) (r : Fin 8) :
    row (looped a) r = Network.apply (sortNet 17 false) (row a r) := by
  rw [← netOf_sched]
  have h := (trips_spec a 153 le_rfl).2 r
  rw [List.take_of_length_le (by rw [sched_length])] at h
  exact h

/-- After the loop every row ascends. -/
theorem looped_monotone (a : FVec Ideal S8x131072 .f32) (r : Fin 8) : Monotone (row (looped a) r) := by
  rw [looped_row]
  exact sortNet_apply_monotone 17 (row a r)

/-- After the loop every row is a rearrangement of the row it was. -/
theorem looped_perm (a : FVec Ideal S8x131072 .f32) (r : Fin 8) :
    ∃ σ : Equiv.Perm (Fin (2 ^ 17)), row (looped a) r = row a r ∘ σ := by
  rw [looped_row]
  exact Network.exists_perm _ _

/-- A fold that ignores the trip's number is an iteration. -/
theorem fold_const {σ : Type} {n : ℕ} (f : σ → σ) (init : σ) : Scf.fold (n := n) (fun _ x => f x) init = f^[n] init := by
  rw [Scf.fold_eq, List.foldl_const, List.length_finRange]

end Cert.KernelIdeal.Sorting
-- ==== Proof.Blocks.lean ====
/- WHAT ONE BLOCK OF EACH LAUNCH COMPUTES, as a function of the blocks it reads: the projections, the sorted rows, and the
   sum of distances to the sorted rows. -/
module

public import proofs.«01_k».proof.Proof.SortLoop
public import Idealize.ShloMosaic.Lib.Tactic

@[expose] public section

set_option maxRecDepth 16384

noncomputable section

namespace Cert.KernelIdeal.Blocks

open Cert.KernelIdeal Cert.KernelIdeal.Gen Cert.KernelIdeal.Sorting
open Idealize.ShloMosaic Idealize.ShloMosaic.TcCoe

/-- The two written zero offsets are zero at every axis. -/
theorem zeros2 : (![0, 0] : Fin 2 → Nat) = fun _ => 0 := funext fun a => by fin_cases a <;> rfl

/-- The three written zero offsets are zero at every axis. -/
theorem zeros3 : (![0, 0, 0] : Fin 3 → Nat) = fun _ => 0 := funext fun a => by fin_cases a <;> rfl

/-- The sorting launch leaves the block it read with every row sorted. -/
theorem out1_eq (c : Dev nD) (i : grid1.Coords) (a1 : Memref sig .tc .vmem S8x131072 .f32) (h1 : a1.IsWhole)
    (a2 : Memref sig .tc .vmem S8x131072 .f32) (h2 : a2.IsWhole) (x : Vec Ideal S8x131072 .f32) :
    out1_A_1 c i a1 h1 a2 h2 x = looped x := by
  unfold out1_A_1
  rw [View.read_writes_eq_canon _ _ _ (cover1_A_1 c i a1 h1 a2 h2 x)]
  unfold kernelRun1_A
  dsimp only
  rw [View.canon_unit_zero zeros2]
  sl_unfold_words
  rw [show k1_pay1 (F := Ideal) = fun v => v from funext fun v => shapeCast_self v _]
  simp only [View.readAt_eq_ld, h1.read_unread, View.ld_unit_zero (S := S8x131072) zeros2]
  exact congrArg Prod.fst (fold_const (n := k1_t1_loop.trips) trip (x, 2#32, 1#32))

/-- The last launch leaves, in every place of its output block, the sum over the block of the distances between the
    second block it read and the sorted rows of the first. -/
theorem out2_eq (c : Dev nD) (i : grid2.Coords) (a1 : Memref sig .tc .vmem S8x131072 .f32) (h1 : a1.IsWhole)
    (a2 : Memref sig .tc .vmem S8x131072 .f32) (h2 : a2.IsWhole)
    (a3 : Memref sig .tc .vmem S1x8x128 .f32) (h3 : a3.IsWhole) (x y : Vec Ideal S8x131072 .f32) :
    out2_A_2 c i a1 h1 a2 h2 a3 h3 x y = k2_pay3 (looped x) y := by
  unfold out2_A_2
  rw [View.read_writes_eq_canon _ _ _ (cover2_A_2 c i a1 h1 a2 h2 a3 h3 x y)]
  unfold kernelRun2_A
  dsimp only
  rw [View.canon_unit_zero zeros3]
  sl_unfold_words
  rw [show k2_pay1 (F := Ideal) = fun v => v from funext fun v => shapeCast_self v _]
  simp only [View.readAt_eq_ld, h1.read_unread, h2.read_unread, View.ld_unit_zero (S := S8x131072) zeros2]
  congr 1
  exact congrArg Prod.fst (fold_const (n := k2_t1_loop.trips) trip (x, 2#32, 1#32))

end Cert.KernelIdeal.Blocks
-- ==== Proof.Formulas.lean ====
/- THE KERNEL'S BLOCK FORMULAS, ENTRY BY ENTRY, in the extended reals. -/
module

public import proofs.«01_k».proof.Proof.Blocks

@[expose] public section

set_option maxRecDepth 16384

noncomputable section

namespace Cert.KernelIdeal.Blocks

open Cert.KernelIdeal Cert.KernelIdeal.Gen Cert.KernelIdeal.Sorting
open Idealize.ShloMosaic Idealize.ShloMosaic.TcCoe

/-- The distance of two extended reals, as the absolute value of their difference. -/
def dist (a b : EReal) : EReal := max (a - b) (-(a - b))

/-- The first projection of a block: direction `l` against sample `n`, the sum of the products of their coordinates. -/
theorem proj_apply (w : FVec Ideal S64x64 .f32) (x : FVec Ideal S8192x64 .f32) (l : Fin 64) (n : Fin 8192) :
    k0_pay2 w x (ix2 l n) = ∑ k : Fin 64, k0_pay1 w (ix2 k l) * x (ix2 n k) := by
  unfold k0_pay2
  pointwise

/-- The second projection of a block is the same function as the first. -/
theorem proj_apply' (w : FVec Ideal S64x64 .f32) (x : FVec Ideal S8192x64 .f32) (l : Fin 64) (n : Fin 8192) :
    k0_pay3 w x (ix2 l n) = ∑ k : Fin 64, k0_pay1 w (ix2 k l) * x (ix2 n k) :=
  proj_apply w x l n

/-- Every place of the last launch's output block holds the sum of the block's distances. -/
theorem dist_apply (s y : FVec Ideal S8x131072 .f32) (j : S1x8x128.Idx) :
    k2_pay3 s y j = ∑ r : Fin 8, ∑ i : Fin 131072, dist (y (ix2 r i)) (s (ix2 r i)) := by
  unfold k2_pay3 dist
  dsimp only
  pointwise
  rfl

end Cert.KernelIdeal.Blocks
-- ==== Proof.Regions0.lean ====
/- WHAT THE PROJECTION LAUNCH LEAVES. Sixteen points write sixteen blocks of 8192 samples; together they fill the two
   transposed projection arrays. -/
module

public import proofs.«01_k».proof.Proof.Formulas
public import Idealize.ShloMosaic.Lib.Pipeline.Value

@[expose] public section

set_option maxRecDepth 16384

noncomputable section

namespace Cert.KernelIdeal.Regions

open Cert.KernelIdeal Cert.KernelIdeal.Gen Cert.KernelIdeal.Blocks
open Idealize.ShloMosaic Idealize.ShloMosaic.TcCoe
open Idealize.ShloMosaic.Pipeline (Dat)

/-- The projection of sample `n` onto the normalised direction `l`. -/
def projAt (w : FVec Ideal S64x64 .f32) (x : FVec Ideal S131072x64 .f32) (l : Fin 64) (n : Fin 131072) : EReal :=
  ∑ k : Fin 64, k0_pay1 (F := Ideal) w (ix2 k l) * x (ix2 n k)

/-- All projections, one row per direction. -/
def projOf (w : FVec Ideal S64x64 .f32) (x : FVec Ideal S131072x64 .f32) : FVec Ideal S64x131072 .f32 :=
  fun i => projAt w x (i 0) (i 1)

/-- Where each window of the projection launch stands at point `t`. -/
theorem index0 : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = t.val)
    ∧ (win0_4.index t 0 = 0 ∧ win0_4.index t 1 = t.val) := by decide +kernel

/-- How much of each output window is written back at point `t`: all of it. -/
theorem xsize0 : ∀ t : Fin cfg0.N,
    (win0_3.xsize (grid0.coords t) 0 = 64 ∧ win0_3.xsize (grid0.coords t) 1 = 8192)
    ∧ (win0_4.xsize (grid0.coords t) 0 = 64 ∧ win0_4.xsize (grid0.coords t) 1 = 8192) := by decide +kernel

variable (V : (c : Dev nD) → (b : Ref sig .tc) → Buf (Elt Ideal) ((c : Thread nD τ).loc b))

/-- The block of the first samples read at point `t`. -/
theorem iblk0_0 (c : Dev nD) (t : Fin cfg0.N) (n : Fin 8192) (k : Fin 64) (h : t.val * 8192 + n.val < 131072) :
    iblk0 V c 0 t (ix2 n k) = V c main_arg0 (ix2 ⟨t.val * 8192 + n.val, h⟩ k) := by
  have hi := (index0 t).1
  unfold iblk0
  rw [View.read_apply]
  show V c main_arg0 _ = _
  congr 1
  funext a
  apply Fin.ext
  match a with
  | ⟨0, _⟩ => show win0_0.index t 0 * 8192 + 1 * n.val = _; rw [hi.1, Nat.one_mul]; rfl
  | ⟨1, _⟩ => show win0_0.index t 1 * 64 + 1 * k.val = k.val; rw [hi.2]; omega

/-- The block of the second samples read at point `t`. -/
theorem iblk0_1 (c : Dev nD) (t : Fin cfg0.N) (n : Fin 8192) (k : Fin 64) (h : t.val * 8192 + n.val < 131072) :
    iblk0 V c 1 t (ix2 n k) = V c main_arg1 (ix2 ⟨t.val * 8192 + n.val, h⟩ k) := by
  have hi := (index0 t).2.1
  unfold iblk0
  rw [View.read_apply]
  show V c main_arg1 _ = _
  congr 1
  funext a
  apply Fin.ext
  match a with
  | ⟨0, _⟩ => show win0_1.index t 0 * 8192 + 1 * n.val = _; rw [hi.1, Nat.one_mul]; rfl
  | ⟨1, _⟩ => show win0_1.index t 1 * 64 + 1 * k.val = k.val; rw [hi.2]; omega

/-- Every point reads all the directions. -/
theorem iblk0_2 (c : Dev nD) (t : Fin cfg0.N) : iblk0 V c 2 t = (V c main_arg2 : S64x64.Idx → EReal) := by
  have hi := (index0 t).2.2.1
  funext j
  unfold iblk0
  rw [View.read_apply]
  show V c main_arg2 _ = _
  congr 1
  funext a
  apply Fin.ext
  match a with
  | ⟨0, _⟩ => show win0_2.index t 0 * 64 + 1 * (j 0).val = (j 0).val; rw [hi.1]; omega
  | ⟨1, _⟩ => show win0_2.index t 1 * 64 + 1 * (j 1).val = (j 1).val; rw [hi.2]; omega

/-- What point `t` writes back to the first projection array is its block of the projections. -/
theorem flushed0_3 (c : Dev nD) (t : Fin cfg0.N) :
    (dat0 V c).flushed 3 t
      = ((cfg0.win 3).blk t).view.read (Elt Ideal) (projOf (V c main_arg2) (V c main_arg0)) := by
  have hN : cfg0.N = 16 := N_0
  have ht := t.isLt
  show (cfg0.win 3).cut (grid0.coords t) ((dat0 V c).after 3 t) = _
  rw [after0_3]
  unfold out0_3
  rw [View.canon_unit_zero zeros2, View.ld_unit_zero zeros2, View.ld_unit_zero zeros2, iblk0_2]
  funext j
  obtain ⟨l, n, rfl⟩ : ∃ (l : Fin 64) (n : Fin 8192), j = ix2 l n := ⟨j 0, j 1, eq_ix2 j⟩
  have hn : t.val * 8192 + n.val < 131072 := by have := n.isLt; omega
  refine (proj_apply (V c main_arg2) (iblk0 V c 0 t) l n).trans ?_
  rw [View.read_apply]
  show _ = projAt _ _ _ _
  have e0 : ((cfg0.win 3).blk t).view.emb (ix2 l n) 0 = l := by
    apply Fin.ext
    show win0_3.index t 0 * 64 + 1 * l.val = l.val
    rw [(index0 t).2.2.2.1.1]; omega
  have e1 : ((cfg0.win 3).blk t).view.emb (ix2 l n) 1 = (⟨t.val * 8192 + n.val, hn⟩ : Fin 131072) := by
    apply Fin.ext
    show win0_3.index t 1 * 8192 + 1 * n.val = t.val * 8192 + n.val
    rw [(index0 t).2.2.2.1.2]; omega
  rw [e0, e1]
  unfold projAt
  exact Finset.sum_congr rfl fun k _ => congrArg _ (iblk0_0 V c t n k hn)

/-- The points' blocks fill the first projection array. -/
theorem cover0_of_3 (i : S64x131072.Idx) : ∃ t : Fin cfg0.N, (cfg0.win 3).flush t = true
    ∧ i ∈ ((cfg0.win 3).blk t).view.set := by
  have h0 : (i 0 : Nat) < 64 := (i 0).isLt
  have h1 : (i 1 : Nat) < 131072 := (i 1).isLt
  let t : Fin cfg0.N := ⟨(i 1 : Nat) / 8192, by show _ < grid0.N; rw [N_0]; omega⟩
  refine ⟨t, flush0_3 t, ?_⟩
  show i ∈ ((View.whole main_v0_0).slice (win0_3.rect t)).set
  rw [View.set_slice_whole, Rect.mem_set_unit]
  intro a
  have hi := (index0 t).2.2.2.1
  have hx := (xsize0 t).1
  match a with
  | ⟨0, _⟩ =>
    show win0_3.index t 0 * 64 ≤ (i 0 : Nat) ∧ (i 0 : Nat) < win0_3.index t 0 * 64 + win0_3.xsize (grid0.coords t) 0
    rw [hi.1, hx.1]; omega
  | ⟨1, _⟩ =>
    show win0_3.index t 1 * 8192 ≤ (i 1 : Nat) ∧ (i 1 : Nat) < win0_3.index t 1 * 8192 + win0_3.xsize (grid0.coords t) 1
    rw [hi.2, hx.2]
    show (i 1 : Nat) / 8192 * 8192 ≤ (i 1 : Nat) ∧ (i 1 : Nat) < (i 1 : Nat) / 8192 * 8192 + 8192
    omega

/-- The first projection array after the launch. -/
theorem final0_3 (c : Dev nD) : (dat0 V c).arrAt 3 cfg0.N = projOf (V c main_arg2) (V c main_arg0) :=
  (dat0 V c).arrAt_eq_of_cover 3 (projOf (V c main_arg2) (V c main_arg0)) (fun t _ => flushed0_3 V c t)
    fun i => cover0_of_3 i

/-- What point `t` writes back to the second projection array is its block of the projections. -/
theorem flushed0_4 (c : Dev nD) (t : Fin cfg0.N) :
    (dat0 V c).flushed 4 t
      = ((cfg0.win 4).blk t).view.read (Elt Ideal) (projOf (V c main_arg2) (V c main_arg1)) := by
  have hN : cfg0.N = 16 := N_0
  have ht := t.isLt
  show (cfg0.win 4).cut (grid0.coords t) ((dat0 V c).after 4 t) = _
  rw [after0_4]
  unfold out0_4
  rw [View.canon_unit_zero zeros2, View.ld_unit_zero zeros2, View.ld_unit_zero zeros2, iblk0_2]
  funext j
  obtain ⟨l, n, rfl⟩ : ∃ (l : Fin 64) (n : Fin 8192), j = ix2 l n := ⟨j 0, j 1, eq_ix2 j⟩
  have hn : t.val * 8192 + n.val < 131072 := by have := n.isLt; omega
  refine (proj_apply' (V c main_arg2) (iblk0 V c 1 t) l n).trans ?_
  rw [View.read_apply]
  show _ = projAt _ _ _ _
  have e0 : ((cfg0.win 4).blk t).view.emb (ix2 l n) 0 = l := by
    apply Fin.ext
    show win0_4.index t 0 * 64 + 1 * l.val = l.val
    rw [(index0 t).2.2.2.2.1]; omega
  have e1 : ((cfg0.win 4).blk t).view.emb (ix2 l n) 1 = (⟨t.val * 8192 + n.val, hn⟩ : Fin 131072) := by
    apply Fin.ext
    show win0_4.index t 1 * 8192 + 1 * n.val = t.val * 8192 + n.val
    rw [(index0 t).2.2.2.2.2]; omega
  rw [e0, e1]
  unfold projAt
  exact Finset.sum_congr rfl fun k _ => congrArg _ (iblk0_1 V c t n k hn)

/-- The points' blocks fill the second projection array. -/
theorem cover0_of_4 (i : S64x131072.Idx) : ∃ t : Fin cfg0.N, (cfg0.win 4).flush t = true
    ∧ i ∈ ((cfg0.win 4).blk t).view.set := by
  have h0 : (i 0 : Nat) < 64 := (i 0).isLt
  have h1 : (i 1 : Nat) < 131072 := (i 1).isLt
  let t : Fin cfg0.N := ⟨(i 1 : Nat) / 8192, by show _ < grid0.N; rw [N_0]; omega⟩
  refine ⟨t, flush0_4 t, ?_⟩
  show i ∈ ((View.whole main_v0_1).slice (win0_4.rect t)).set
  rw [View.set_slice_whole, Rect.mem_set_unit]
  intro a
  have hi := (index0 t).2.2.2.2
  have hx := (xsize0 t).2
  match a with
  | ⟨0, _⟩ =>
    show win0_4.index t 0 * 64 ≤ (i 0 : Nat) ∧ (i 0 : Nat) < win0_4.index t 0 * 64 + win0_4.xsize (grid0.coords t) 0
    rw [hi.1, hx.1]; omega
  | ⟨1, _⟩ =>
    show win0_4.index t 1 * 8192 ≤ (i 1 : Nat) ∧ (i 1 : Nat) < win0_4.index t 1 * 8192 + win0_4.xsize (grid0.coords t) 1
    rw [hi.2, hx.2]
    show (i 1 : Nat) / 8192 * 8192 ≤ (i 1 : Nat) ∧ (i 1 : Nat) < (i 1 : Nat) / 8192 * 8192 + 8192
    omega

/-- The second projection array after the launch. -/
theorem final0_4 (c : Dev nD) : (dat0 V c).arrAt 4 cfg0.N = projOf (V c main_arg2) (V c main_arg1) :=
  (dat0 V c).arrAt_eq_of_cover 4 (projOf (V c main_arg2) (V c main_arg1)) (fun t _ => flushed0_4 V c t)
    fun i => cover0_of_4 i

end Cert.KernelIdeal.Regions
-- ==== Proof.Regions1.lean ====
/- WHAT THE TWO SORTING LAUNCHES LEAVE. Eight points take eight rows each. The first of the two launches fills its array
   with the sorted rows; the second fills its array with one sum of distances per point. -/
module

public import proofs.«01_k».proof.Proof.Regions0

@[expose] public section

set_option maxRecDepth 16384

noncomputable section

namespace Cert.KernelIdeal.Regions

open Cert.KernelIdeal Cert.KernelIdeal.Gen Cert.KernelIdeal.Blocks Cert.KernelIdeal.Sorting
open Idealize.ShloMosaic Idealize.ShloMosaic.TcCoe Idealize.ShloMosaic.SortNet
open Idealize.ShloMosaic.Pipeline (Dat)

/-- Entry `n` of row `l` once the row has gone through the sorting network. -/
def sortedAt (x : FVec Ideal S64x131072 .f32) (l : Fin 64) (n : Fin 131072) : EReal :=
  Network.apply (sortNet 17 false) (row x l) ⟨n.val, n.isLt⟩

/-- All rows sorted. -/
def sortedOf (x : FVec Ideal S64x131072 .f32) : FVec Ideal S64x131072 .f32 := fun i => sortedAt x (i 0) (i 1)

/-- Row `r` of block `b` of eight rows. -/
def rowOf (b r : Fin 8) : Fin 64 := ⟨b.val * 8 + r.val, by have := b.isLt; have := r.isLt; omega⟩

/-- The sum, over the eight rows of block `b`, of the distances between `x` and the sorted rows of `y`. -/
def blockSum (x y : FVec Ideal S64x131072 .f32) (b : Fin 8) : EReal :=
  ∑ r : Fin 8, ∑ n : Fin 131072, dist (x (ix2 (rowOf b r) n)) (sortedAt y (rowOf b r) n)

/-- All block sums, each repeated over its block of the output. -/
def sumsOf (x y : FVec Ideal S64x131072 .f32) : FVec Ideal S8x8x128 .f32 := fun i => blockSum x y (i 0)

/-- Where each window of the first sorting launch stands at point `t`, and how much of the output is written back. -/
theorem index1 : ∀ t : Fin cfg1.N,
    (win1_0.index t 0 = t.val ∧ win1_0.index t 1 = 0) ∧ (win1_1.index t 0 = t.val ∧ win1_1.index t 1 = 0)
    ∧ (win1_1.xsize (grid1.coords t) 0 = 8 ∧ win1_1.xsize (grid1.coords t) 1 = 131072) := by decide +kernel

/-- Where each window of the second sorting launch stands at point `t`, and how much of the output is written back. -/
theorem index2 : ∀ t : Fin cfg2.N,
    (win2_0.index t 0 = t.val ∧ win2_0.index t 1 = 0) ∧ (win2_1.index t 0 = t.val ∧ win2_1.index t 1 = 0)
    ∧ (win2_2.index t 0 = t.val ∧ win2_2.index t 1 = 0 ∧ win2_2.index t 2 = 0)
    ∧ (win2_2.xsize (grid2.coords t) 0 = 1 ∧ win2_2.xsize (grid2.coords t) 1 = 8 ∧ win2_2.xsize (grid2.coords t) 2 = 128) := by
  decide +kernel

variable (V : (c : Dev nD) → (b : Ref sig .tc) → Buf (Elt Ideal) ((c : Thread nD τ).loc b))

/-- The block of eight rows read by the first sorting launch at point `t`. -/
theorem iblk1_0 (c : Dev nD) (t : Fin cfg1.N) (b r : Fin 8) (n : Fin 131072) (hb : b.val = t.val) :
    iblk1 V c 0 t (ix2 r n) = V c main_v0_0 (ix2 (rowOf b r) n) := by
  have hi := (index1 t).1
  unfold iblk1
  rw [View.read_apply]
  show V c main_v0_0 _ = _
  congr 1
  funext a
  apply Fin.ext
  match a with
  | ⟨0, _⟩ => show win1_0.index t 0 * 8 + 1 * r.val = b.val * 8 + r.val; rw [hi.1, hb]; omega
  | ⟨1, _⟩ => show win1_0.index t 1 * 131072 + 1 * n.val = n.val; rw [hi.2]; omega

/-- The block of rows still to be sorted, read by the second sorting launch at point `t`. -/
theorem iblk2_0 (c : Dev nD) (t : Fin cfg2.N) (b r : Fin 8) (n : Fin 131072) (hb : b.val = t.val) :
    iblk2 V c 0 t (ix2 r n) = V c main_v0_1 (ix2 (rowOf b r) n) := by
  have hi := (index2 t).1
  unfold iblk2
  rw [View.read_apply]
  show V c main_v0_1 _ = _
  congr 1
  funext a
  apply Fin.ext
  match a with
  | ⟨0, _⟩ => show win2_0.index t 0 * 8 + 1 * r.val = b.val * 8 + r.val; rw [hi.1, hb]; omega
  | ⟨1, _⟩ => show win2_0.index t 1 * 131072 + 1 * n.val = n.val; rw [hi.2]; omega

/-- The block of rows already sorted, read by the second sorting launch at point `t`. -/
theorem iblk2_1 (c : Dev nD) (t : Fin cfg2.N) (b r : Fin 8) (n : Fin 131072) (hb : b.val = t.val) :
    iblk2 V c 1 t (ix2 r n) = V c main_v1 (ix2 (rowOf b r) n) := by
  have hi := (index2 t).2.1
  unfold iblk2
  rw [View.read_apply]
  show V c main_v1 _ = _
  congr 1
  funext a
  apply Fin.ext
  match a with
  | ⟨0, _⟩ => show win2_1.index t 0 * 8 + 1 * r.val = b.val * 8 + r.val; rw [hi.1, hb]; omega
  | ⟨1, _⟩ => show win2_1.index t 1 * 131072 + 1 * n.val = n.val; rw [hi.2]; omega

/-- If a block of eight rows is rows `rowOf b ·` of an array, then the sorted block is those rows of the sorted array. -/
theorem looped_block (a : FVec Ideal S8x131072 .f32) (x : FVec Ideal S64x131072 .f32) (b r : Fin 8) (n : Fin 131072)
    (h : ∀ n : Fin 131072, a (ix2 r n) = x (ix2 (rowOf b r) n)) : looped a (ix2 r n) = sortedAt x (rowOf b r) n := by
  have e : row a r = row x (rowOf b r) := funext fun i => h ⟨i.val, i.isLt⟩
  have hl := congrFun (looped_row a r) ⟨n.val, n.isLt⟩
  rw [e] at hl
  exact hl

/-- All of a block of the first sorting launch is written back. -/
theorem cut1_1 (t : Fin cfg1.N) (g : FVec Ideal S8x131072 .f32) : (cfg1.win 1).cut (grid1.coords t) g = g := rfl

/-- A read of an array through the output window of the first sorting launch at point `t`. -/
theorem read1_1 (x : FVec Ideal S64x131072 .f32) (t : Fin cfg1.N) (b r : Fin 8) (n : Fin 131072) (hb : b.val = t.val) :
    ((cfg1.win 1).blk t).view.read (Elt Ideal) x (ix2 r n) = x (ix2 (rowOf b r) n) := by
  have hi := (index1 t).2.1
  rw [View.read_apply]
  show x _ = _
  congr 1
  funext a
  apply Fin.ext
  match a with
  | ⟨0, _⟩ => show win1_1.index t 0 * 8 + 1 * r.val = b.val * 8 + r.val; rw [hi.1, hb]; omega
  | ⟨1, _⟩ => show win1_1.index t 1 * 131072 + 1 * n.val = n.val; rw [hi.2]; omega

/-- The array of sorted rows at a row and a position. -/
theorem sortedOf_apply (x : FVec Ideal S64x131072 .f32) (l : Fin 64) (n : Fin 131072) :
    sortedOf x (ix2 l n) = sortedAt x l n := rfl

/-- What point `t` of the first sorting launch writes back is its block of the sorted rows. -/
theorem flushed1_1 (c : Dev nD) (t : Fin cfg1.N) :
    (dat1 V c).flushed 1 t = ((cfg1.win 1).blk t).view.read (Elt Ideal) (sortedOf (V c main_v0_0)) := by
  have hN : cfg1.N = 8 := N_1
  have ht := t.isLt
  have e : (dat1 V c).flushed 1 t = looped (iblk1 V c 0 t) := by
    refine Eq.trans ?_ (cut1_1 t (looped (iblk1 V c 0 t)))
    refine Eq.trans (b := (cfg1.win 1).cut (grid1.coords t) ((dat1 V c).after 1 t)) rfl ?_
    rw [after1_1]
    unfold outsAt1
    rw [out1_eq]
  rw [e]
  funext j
  obtain ⟨r, n, rfl⟩ : ∃ (r : Fin 8) (n : Fin 131072), j = ix2 r n := ⟨j 0, j 1, eq_ix2 j⟩
  have hb : (⟨t.val, by omega⟩ : Fin 8).val = t.val := rfl
  refine Eq.trans ?_ (read1_1 (sortedOf (V c main_v0_0)) t _ r n hb).symm
  rw [sortedOf_apply]
  exact looped_block (iblk1 V c 0 t) (V c main_v0_0) _ r n fun n' => iblk1_0 V c t _ r n' hb

/-- The points' blocks fill the array of sorted rows. -/
theorem cover1_of_1 (i : S64x131072.Idx) : ∃ t : Fin cfg1.N, (cfg1.win 1).flush t = true
    ∧ i ∈ ((cfg1.win 1).blk t).view.set := by
  have h0 : (i 0 : Nat) < 64 := (i 0).isLt
  have h1 : (i 1 : Nat) < 131072 := (i 1).isLt
  let t : Fin cfg1.N := ⟨(i 0 : Nat) / 8, by show _ < grid1.N; rw [N_1]; omega⟩
  refine ⟨t, flush1_1 t, ?_⟩
  show i ∈ ((View.whole main_v1).slice (win1_1.rect t)).set
  rw [View.set_slice_whole, Rect.mem_set_unit]
  intro a
  have hi := (index1 t).2.1
  have hx := (index1 t).2.2
  match a with
  | ⟨0, _⟩ =>
    show win1_1.index t 0 * 8 ≤ (i 0 : Nat) ∧ (i 0 : Nat) < win1_1.index t 0 * 8 + win1_1.xsize (grid1.coords t) 0
    rw [hi.1, hx.1]
    show (i 0 : Nat) / 8 * 8 ≤ (i 0 : Nat) ∧ (i 0 : Nat) < (i 0 : Nat) / 8 * 8 + 8
    omega
  | ⟨1, _⟩ =>
    show win1_1.index t 1 * 131072 ≤ (i 1 : Nat) ∧ (i 1 : Nat) < win1_1.index t 1 * 131072 + win1_1.xsize (grid1.coords t) 1
    rw [hi.2, hx.2]; omega

/-- The array of the first sorting launch afterwards: the sorted rows. -/
theorem final1 (c : Dev nD) : (dat1 V c).arrAt 1 cfg1.N = sortedOf (V c main_v0_0) :=
  (dat1 V c).arrAt_eq_of_cover 1 (sortedOf (V c main_v0_0)) (fun t _ => flushed1_1 V c t) fun i => cover1_of_1 i

/-- All of a block of the second sorting launch is written back. -/
theorem cut2_2 (t : Fin cfg2.N) (g : FVec Ideal S1x8x128 .f32) : (cfg2.win 2).cut (grid2.coords t) g = g := rfl

/-- A read through the output window of the second sorting launch at point `t`, of an array that depends on its first
    coordinate alone. -/
theorem read2_2 (f : Fin 8 → EReal) (t : Fin cfg2.N) (b : Fin 8) (j : S1x8x128.Idx) (hb : b.val = t.val) :
    ((cfg2.win 2).blk t).view.read (Elt Ideal) ((fun i => f (i 0) : FVec Ideal S8x8x128 .f32)) j = f b := by
  rw [View.read_apply]
  show f _ = _
  congr 1
  apply Fin.ext
  have hj : (j 0 : Nat) < 1 := (j 0).isLt
  show win2_2.index t 0 * 1 + 1 * (j 0 : Nat) = b.val
  rw [(index2 t).2.2.1.1]; omega

/-- What point `t` of the second sorting launch writes back is its block of the block sums. -/
theorem flushed2_2 (c : Dev nD) (t : Fin cfg2.N) :
    (dat2 V c).flushed 2 t
      = ((cfg2.win 2).blk t).view.read (Elt Ideal) (sumsOf (V c main_v1) (V c main_v0_1)) := by
  have hN : cfg2.N = 8 := N_2
  have ht := t.isLt
  have e : (dat2 V c).flushed 2 t = k2_pay3 (looped (iblk2 V c 0 t)) (iblk2 V c 1 t) := by
    refine Eq.trans ?_ (cut2_2 t (k2_pay3 (looped (iblk2 V c 0 t)) (iblk2 V c 1 t)))
    refine Eq.trans (b := (cfg2.win 2).cut (grid2.coords t) ((dat2 V c).after 2 t)) rfl ?_
    rw [after2_2]
    unfold outsAt2
    rw [out2_eq]
  rw [e]
  unfold sumsOf
  funext j
  have hb : (⟨t.val, by omega⟩ : Fin 8).val = t.val := rfl
  refine Eq.trans ?_ (read2_2 (blockSum (V c main_v1) (V c main_v0_1)) t _ j hb).symm
  refine (dist_apply (looped (iblk2 V c 0 t)) (iblk2 V c 1 t) j).trans ?_
  unfold blockSum
  refine Finset.sum_congr rfl fun r _ => Finset.sum_congr rfl fun n _ => ?_
  refine congrArg₂ dist (iblk2_1 V c t _ r n hb) ?_
  exact looped_block (iblk2 V c 0 t) (V c main_v0_1) _ r n fun n' => iblk2_0 V c t _ r n' hb

/-- The points' blocks fill the array of block sums. -/
theorem cover2_of_2 (i : S8x8x128.Idx) : ∃ t : Fin cfg2.N, (cfg2.win 2).flush t = true
    ∧ i ∈ ((cfg2.win 2).blk t).view.set := by
  have h0 : (i 0 : Nat) < 8 := (i 0).isLt
  have h1 : (i 1 : Nat) < 8 := (i 1).isLt
  have h2 : (i 2 : Nat) < 128 := (i 2).isLt
  let t : Fin cfg2.N := ⟨(i 0 : Nat), by show _ < grid2.N; rw [N_2]; omega⟩
  refine ⟨t, flush2_2 t, ?_⟩
  show i ∈ ((View.whole main_v2).slice (win2_2.rect t)).set
  rw [View.set_slice_whole, Rect.mem_set_unit]
  intro a
  have hi := (index2 t).2.2.1
  have hx := (index2 t).2.2.2
  match a with
  | ⟨0, _⟩ =>
    show win2_2.index t 0 * 1 ≤ (i 0 : Nat) ∧ (i 0 : Nat) < win2_2.index t 0 * 1 + win2_2.xsize (grid2.coords t) 0
    rw [hi.1, hx.1]
    show (i 0 : Nat) * 1 ≤ (i 0 : Nat) ∧ (i 0 : Nat) < (i 0 : Nat) * 1 + 1
    omega
  | ⟨1, _⟩ =>
    show win2_2.index t 1 * 8 ≤ (i 1 : Nat) ∧ (i 1 : Nat) < win2_2.index t 1 * 8 + win2_2.xsize (grid2.coords t) 1
    rw [hi.2.1, hx.2.1]; omega
  | ⟨2, _⟩ =>
    show win2_2.index t 2 * 128 ≤ (i 2 : Nat) ∧ (i 2 : Nat) < win2_2.index t 2 * 128 + win2_2.xsize (grid2.coords t) 2
    rw [hi.2.2, hx.2.2]; omega

/-- The array of the second sorting launch afterwards: the block sums. -/
theorem final2 (c : Dev nD) : (dat2 V c).arrAt 2 cfg2.N = sumsOf (V c main_v1) (V c main_v0_1) :=
  (dat2 V c).arrAt_eq_of_cover 2 (sumsOf (V c main_v1) (V c main_v0_1)) (fun t _ => flushed2_2 V c t)
    fun i => cover2_of_2 i

end Cert.KernelIdeal.Regions
-- ==== Proof.Tail.lean ====
/- WHAT THE KERNEL PROGRAM RETURNS. The contents of the buffers are followed through the three launches; the closing
   operations take one place of each block of the last launch, add the eight values and divide by a constant. -/
module

public import proofs.«01_k».proof.Proof.Regions1

@[expose] public section

set_option maxRecDepth 16384

noncomputable section

namespace Cert.KernelIdeal.Tail

open Cert.KernelIdeal Cert.KernelIdeal.Gen Cert.KernelIdeal.Blocks Cert.KernelIdeal.Regions
open Idealize.ShloMosaic Idealize.ShloMosaic.TcCoe Idealize.ShloMosaic.Tactic

variable (m : (ℓ : Loc nD τ sig) → Buf (Elt Ideal) ℓ) (ρ : Dev nD → PrngReg)

/-- After the first launch the first projection array holds the projections of the first argument. -/
theorem projected_x (c : Dev nD) : V1 m ρ c main_v0_0
    = projOf (m ((c : Thread nD τ).loc main_arg2)) (m ((c : Thread nD τ).loc main_arg0)) :=
  (W1_arr m ρ c 3).trans (final0_3 (V0 m ρ) c)

/-- After the first launch the second projection array holds the projections of the second argument. -/
theorem projected_y (c : Dev nD) : V1 m ρ c main_v0_1
    = projOf (m ((c : Thread nD τ).loc main_arg2)) (m ((c : Thread nD τ).loc main_arg1)) :=
  (W1_arr m ρ c 4).trans (final0_4 (V0 m ρ) c)

/-- After the second launch its array holds the sorted rows of the first projections. -/
theorem sorted_x (c : Dev nD) : V2 m ρ c main_v1
    = sortedOf (projOf (m ((c : Thread nD τ).loc main_arg2)) (m ((c : Thread nD τ).loc main_arg0))) :=
  ((W2_arr m ρ c 1).trans (final1 (V1 m ρ) c)).trans (congrArg sortedOf (projected_x m ρ c))

/-- The second launch leaves the second projection array as it was. -/
theorem kept_y (c : Dev nD) : V2 m ρ c main_v0_1
    = projOf (m ((c : Thread nD τ).loc main_arg2)) (m ((c : Thread nD τ).loc main_arg1)) :=
  (W2_of m ρ c main_v0_1 (by decide)).trans (projected_y m ρ c)

/-- After the third launch its array holds the block sums. -/
theorem summed (c : Dev nD) : W3 m ρ c (Proc.devRef .tc main_v2)
    = sumsOf (sortedOf (projOf (m ((c : Thread nD τ).loc main_arg2)) (m ((c : Thread nD τ).loc main_arg0))))
        (projOf (m ((c : Thread nD τ).loc main_arg2)) (m ((c : Thread nD τ).loc main_arg1))) :=
  ((W3_arr m ρ c 2).trans (final2 (V2 m ρ) c)).trans (congrArg₂ sumsOf (sorted_x m ρ c) (kept_y m ρ c))

/-- The closing operations applied to what the third launch left. -/
theorem closing (c : Dev nD) : W4 m ρ c (Proc.devRef .tc main_v6)
    = (Host.divf (F := Ideal) (Host.reduceAdd (shapeCast S8 (extractStridedSlice S8x1x1 ![0, 0, 0]
          (W3 m ρ c (Proc.devRef .tc main_v2) : FVec Ideal S8x8x128 .f32) slices_S8x8x128_S8x1x1_0_0_0) shapeCasts_S8x1x1_S8)
        (constant S_ .f32 0x00000000#32) reducesTo_S8_S_d0 h_S_) (constant S_ .f32 0x4B000000#32) : FVec Ideal S_ .f32) := by
  simp only [W4, hostOps3]
  after_results
  generalize W3 m ρ c (Proc.devRef .tc main_v2) = z
  rfl

/-- Of an array that depends on its first coordinate alone, one place per block is taken and the eight are added. -/
theorem sum_blocks (f : Fin 8 → EReal) :
    (Host.reduceAdd (F := Ideal) (shapeCast S8 (extractStridedSlice S8x1x1 ![0, 0, 0]
          ((fun i => f (i 0)) : FVec Ideal S8x8x128 .f32) slices_S8x8x128_S8x1x1_0_0_0) shapeCasts_S8x1x1_S8)
        (constant S_ .f32 0x00000000#32) reducesTo_S8_S_d0 h_S_ : FVec Ideal S_ .f32) = fun _ => ∑ b : Fin 8, f b := by
  funext j
  pointwise

/-- The kernel program's result: the eight block sums added and divided by the number of terms. -/
theorem value (c : Dev nD) : W4 m ρ c (Proc.devRef .tc main_v6)
    = Host.divf (F := Ideal) (fun _ => ∑ b : Fin 8, blockSum
          (sortedOf (projOf (m ((c : Thread nD τ).loc main_arg2)) (m ((c : Thread nD τ).loc main_arg0))))
          (projOf (m ((c : Thread nD τ).loc main_arg2)) (m ((c : Thread nD τ).loc main_arg1))) b)
        (constant S_ .f32 0x4B000000#32) := by
  rw [closing, summed]
  unfold sumsOf
  rw [sum_blocks]

end Cert.KernelIdeal.Tail
-- ==== Proof.HostSorted.lean ====
/- A SORT BY A COMPARATOR AND A SORTING NETWORK GIVE THE SAME VALUES. Both rearrange one vector into ascending order, and
   there is only one such vector of values. The sizes are variables throughout. -/
module

public import Idealize.ShloMosaic.Lib.SortFacts
public import Idealize.ShloMosaic.Lib.SortNet.Sorts
public import Idealize.ShloMosaic.Lib.Pointwise
public import Mathlib.Data.List.OfFn

@[expose] public section

noncomputable section

namespace Cert.HostSorted

open Idealize.ShloMosaic Idealize.ShloMosaic.SortNet

variable {N M : ℕ}

/-- Two ascending rearrangements of one vector hold the same values. -/
theorem ascending_unique (v : Fin N → EReal) (σ τ : Equiv.Perm (Fin N)) (hσ : Monotone (v ∘ σ)) (hτ : Monotone (v ∘ τ)) :
    v ∘ σ = v ∘ τ := by
  have asc : ∀ π : Equiv.Perm (Fin N), Monotone (v ∘ π) → (List.ofFn (v ∘ π)).Pairwise (· ≤ ·) := fun π hπ => by
    rw [List.pairwise_ofFn]
    exact fun i j hij => hπ hij.le
  refine List.ofFn_injective (List.Perm.eq_of_pairwise (le := (· ≤ ·)) (fun a b _ _ h h' => le_antisymm h h')
    (asc σ hσ) (asc τ hτ) ?_)
  exact (Equiv.Perm.ofFn_comp_perm σ v).trans (Equiv.Perm.ofFn_comp_perm τ v).symm

/-- Moving along the first axis replaces the first coordinate. -/
theorem along_first (n k : Fin N) (l : Fin M) :
    Shape.Idx.along (s := ⟨2, ![N, M]⟩) (Idealize.ShloMosaic.ix2 n l) 0 k = Idealize.ShloMosaic.ix2 k l := by
  unfold Shape.Idx.along
  funext a
  match a with
  | ⟨0, _⟩ => exact Function.update_self ..
  | ⟨1, _⟩ => exact Function.update_of_ne (fun e => absurd (congrArg Fin.val e) Nat.one_ne_zero) ..

/-- Where a column's sort takes its `n`-th entry from. -/
def source (v : Fin N → EReal) (n : Fin N) : Fin N := sortedFrom (fun k k' => decide (v k < v k')) n

/-- A column's entries, read from their sources, ascend. -/
theorem source_monotone (v : Fin N → EReal) : Monotone (v ∘ source v) := by
  intro i j hij
  rcases hij.eq_or_lt with rfl | h
  · exact le_rfl
  have := sortedFrom_noInversion (fun k k' => decide (v k < v k')) (fun k k' => decide (v k < v k'))
    (fun a b hab => by simp only [decide_eq_true_eq, decide_eq_false_iff_not, not_lt] at hab ⊢; exact hab.le)
    (fun a b hab => hab)
    (fun a b c hab hbc => by
      simp only [decide_eq_false_iff_not, not_lt] at hab hbc ⊢; exact hbc.trans hab) i j h
  simp only [decide_eq_false_iff_not, not_lt] at this
  exact this

/-- The sources are the places of the column in some order. -/
def sourcePerm (v : Fin N → EReal) : Equiv.Perm (Fin N) :=
  Equiv.ofBijective (source v) ⟨sortedFrom_injective _, sortedFrom_surjective _⟩

/-- An array sorted along its first axis by the order of its values, at an entry. -/
theorem sort_apply (cmp : EReal → EReal → BitVec 1) (hcmp : ∀ a b, (cmp a b == 1#1) = decide (a < b))
    (x : (⟨2, ![N, M]⟩ : Shape).Idx → EReal) (n : Fin N) (l : Fin M) :
    Host.sort ⟨2, ![N, M]⟩ 0 cmp x (Idealize.ShloMosaic.ix2 n l)
      = x (Idealize.ShloMosaic.ix2 (source (fun k => x (Idealize.ShloMosaic.ix2 k l)) n) l) := by
  unfold Host.sort
  rw [dif_pos (show 0 < (⟨2, ![N, M]⟩ : Shape).rank from Nat.zero_lt_two)]
  simp only [hcmp]
  refine (congrArg x (along_first n _ l)).trans ?_
  refine congrArg (fun f : Fin N → Fin N → Bool => x (Idealize.ShloMosaic.ix2 (sortedFrom f n) l)) ?_
  funext k k'
  refine congrArg₂ (fun a b : EReal => decide (a < b)) ?_ ?_
  · exact congrArg x (along_first n k l)
  · exact congrArg x (along_first n k' l)

/-- A column sorted by the comparator holds what the sorting network makes of it. -/
theorem sort_eq_network {p : ℕ} (h : N = 2 ^ p) (cmp : EReal → EReal → BitVec 1)
    (hcmp : ∀ a b, (cmp a b == 1#1) = decide (a < b)) (x : (⟨2, ![N, M]⟩ : Shape).Idx → EReal) (l : Fin M)
    (v : Fin (2 ^ p) → EReal) (hv : ∀ i : Fin (2 ^ p), v i = x (Idealize.ShloMosaic.ix2 ⟨i.val, h ▸ i.isLt⟩ l)) (n : Fin N) :
    Host.sort ⟨2, ![N, M]⟩ 0 cmp x (Idealize.ShloMosaic.ix2 n l)
      = Network.apply (sortNet p false) v ⟨n.val, h ▸ n.isLt⟩ := by
  subst h
  rw [sort_apply cmp hcmp]
  have e : (fun k => x (Idealize.ShloMosaic.ix2 k l)) = v := funext fun i => (hv i).symm
  rw [e]
  obtain ⟨σ, hσ⟩ := Network.exists_perm (sortNet p false) v
  have hm := sortNet_apply_monotone p v
  rw [hσ] at hm ⊢
  have u := ascending_unique v (sourcePerm v) σ (source_monotone v) hm
  rw [← u]
  exact (hv (source v n)).symm

end Cert.HostSorted
-- ==== Proof.Reference.lean ====
/- WHAT THE REFERENCE COMPUTES, in the extended reals: the same projections, every column sorted, and the sum of the
   distances of the sorted columns divided by the number of terms. -/
module

public import proofs.«01_k».proof.Proof.Gen.ReferenceIdeal.Run
public import proofs.«01_k».proof.Proof.Regions1
public import proofs.«01_k».proof.Proof.HostSorted

@[expose] public section

set_option maxRecDepth 16384

noncomputable section

namespace Cert.ReferenceIdeal.Formula

open Cert.ReferenceIdeal Cert.ReferenceIdeal.Gen Cert.KernelIdeal.Blocks Cert.KernelIdeal.Regions
open Cert.KernelIdeal.Gen (k0_pay1)
open Idealize.ShloMosaic Idealize.ShloMosaic.TcCoe

/-- The directions, each column divided by its length plus a small constant. -/
def unit (w : FVec Ideal S64x64 .f32) : FVec Ideal S64x64 .f32 :=
  Host.divf w (broadcastInDim S64x64 ![0, 1] bcast_S1x64_S64x64_0_1 (addf (Host.sqrt (broadcastInDim S1x64 ![1] bcast_S64_S1x64_1
    (Host.reduceAdd (mulf w w) (constant S_ .f32 0x00000000#32) reducesTo_S64x64_S64_d0 h_S_)))
    (broadcastInDim S1x64 ![] bcast_S_S1x64 (constant S_ .f32 0x2B8CBCCC#32))))

/-- The kernel divides the directions by the same lengths. -/
theorem unit_apply (w : FVec Ideal S64x64 .f32) (k l : Fin 64) :
    unit w (Idealize.ShloMosaic.ix2 k l) = k0_pay1 (F := Ideal) w (Idealize.ShloMosaic.ix2 k l) := by
  unfold unit k0_pay1
  dsimp only
  pointwise

/-- The reference's projections. -/
def proj (w : FVec Ideal S64x64 .f32) (x : FVec Ideal S131072x64 .f32) : FVec Ideal S131072x64 .f32 :=
  Host.dotGeneral dot_S131072x64_S64x64_S131072x64_1_0_0_1_n_n none x (unit w)

/-- A matrix product of the reference at an entry. -/
theorem dot_apply (x : FVec Ideal S131072x64 .f32) (u : FVec Ideal S64x64 .f32) (n : Fin 131072) (l : Fin 64) :
    Host.dotGeneral dot_S131072x64_S64x64_S131072x64_1_0_0_1_n_n none x u (Idealize.ShloMosaic.ix2 n l)
      = ∑ k : Fin 64, x (Idealize.ShloMosaic.ix2 n k) * u (Idealize.ShloMosaic.ix2 k l) := by
  pointwise

/-- The reference's projections are the kernel's, transposed. -/
theorem proj_eq (w : FVec Ideal S64x64 .f32) (x : FVec Ideal S131072x64 .f32) (n : Fin 131072) (l : Fin 64) :
    proj w x (Idealize.ShloMosaic.ix2 n l) = projOf w x (Idealize.ShloMosaic.ix2 l n) := by
  have e : projOf w x (Idealize.ShloMosaic.ix2 l n) = ∑ k : Fin 64, k0_pay1 (F := Ideal) w (Idealize.ShloMosaic.ix2 k l)
      * x (Idealize.ShloMosaic.ix2 n k) := rfl
  unfold proj
  rw [dot_apply, e]
  refine Finset.sum_congr rfl fun k _ => ?_
  rw [unit_apply]
  exact mul_comm _ _

/-- The reference's comparator asks whether the first value is less than the second. -/
theorem comparator_eq (a b : EReal) : (comparator_f32_d0 (F := Ideal) a b == 1#1) = decide (a < b) := by
  have key : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    rw [Ideal.cmpf_def, Ideal.cmpf_def, Ideal.ofBits_def, Ideal.ofBits_def, Ideal.ofBits_zero_f32]
    by_cases h : z = 0 <;> simp [Scalar.select, Ideal.cmp, h]
  unfold comparator_f32_d0
  dsimp only
  rw [key a, key b, Ideal.cmpfTotal_def]
  by_cases h : a < b <;> simp [Ideal.cmp, CmpDirection.ordered, h]

/-- The reference's sorted projections are the kernel's sorted rows. -/
theorem sorted_eq (w : FVec Ideal S64x64 .f32) (x : FVec Ideal S131072x64 .f32) (n : Fin 131072) (l : Fin 64) :
    Host.sort S131072x64 0 (comparator_f32_d0 (F := Ideal)) (proj w x) (Idealize.ShloMosaic.ix2 n l)
      = sortedAt (projOf w x) l n := by
  unfold sortedAt
  exact Cert.HostSorted.sort_eq_network (p := 17) (by decide) _ comparator_eq (proj w x) l
    (Cert.KernelIdeal.Sorting.row (projOf w x) l) (fun i => (proj_eq w x ⟨i.val, i.isLt⟩ l).symm) n

/-- The sum of the distances of two arrays' entries. -/
theorem total_apply (a b : FVec Ideal S131072x64 .f32) (j : S_.Idx) :
    Host.reduceAdd (Host.absf (subf a b)) (constant S_ .f32 0x00000000#32) reducesTo_S131072x64_S_d0_1 h_S_ j
      = ∑ n : Fin 131072, ∑ l : Fin 64, dist (a (Idealize.ShloMosaic.ix2 n l)) (b (Idealize.ShloMosaic.ix2 n l)) := by
  unfold Cert.KernelIdeal.Blocks.dist
  pointwise
  try rfl

/-- The sum that the reference divides, as a sum over samples and directions. -/
theorem total_eq (w : FVec Ideal S64x64 .f32) (x y : FVec Ideal S131072x64 .f32) :
    Host.reduceAdd (Host.absf (subf (Host.sort S131072x64 0 (comparator_f32_d0 (F := Ideal)) (proj w x))
        (Host.sort S131072x64 0 (comparator_f32_d0 (F := Ideal)) (proj w y))))
      (constant S_ .f32 0x00000000#32) reducesTo_S131072x64_S_d0_1 h_S_
      = fun _ => ∑ n : Fin 131072, ∑ l : Fin 64, dist (sortedAt (projOf w x) l n) (sortedAt (projOf w y) l n) := by
  funext j
  rw [total_apply]
  refine Finset.sum_congr rfl fun n _ => Finset.sum_congr rfl fun l _ => ?_
  exact congrArg₂ dist (sorted_eq w x n l) (sorted_eq w y n l)

end Cert.ReferenceIdeal.Formula
-- ==== Proof.Equation.lean ====
/- THE EQUATION. The kernel program adds the distances block by block of directions, the reference sample by sample; both
   divide the same sum by the same number. -/
module

public import proofs.«01_k».proof.Defs
public import proofs.«01_k».proof.Proof.KernelRun
public import proofs.«01_k».proof.Proof.Tail
public import proofs.«01_k».proof.Proof.Reference

@[expose] public section

set_option maxRecDepth 16384

noncomputable section

namespace Cert.Equation

open Cert.KernelIdeal.Blocks Cert.KernelIdeal.Regions Cert.ReferenceIdeal.Formula
open Idealize.ShloMosaic Idealize.ShloMosaic.TcCoe Idealize.SL.Sem

/-- A sum over samples and directions, the directions taken eight at a time and summed first over the samples. -/
theorem sum_regroup {N : ℕ} (f : Fin 64 → Fin N → EReal) :
    ∑ b : Fin 8, ∑ r : Fin 8, ∑ n : Fin N, f (rowOf b r) n = ∑ n : Fin N, ∑ l : Fin 64, f l n := by
  rw [Finset.sum_comm (s := (Finset.univ : Finset (Fin N)))]
  exact (Idealize.ShloMosaic.Fin.sum_univ_tiles 8 8 rfl fun l => ∑ n : Fin N, f l n).symm

/-- The kernel's sum over its blocks is the reference's sum. -/
theorem sums_eq (w : FVec Ideal Cert.KernelIdeal.S64x64 .f32) (x y : FVec Ideal Cert.KernelIdeal.S131072x64 .f32) :
    ∑ b : Fin 8, blockSum (sortedOf (projOf w x)) (projOf w y) b
      = ∑ n : Fin 131072, ∑ l : Fin 64, Cert.KernelIdeal.Blocks.dist (sortedAt (projOf w x) l n) (sortedAt (projOf w y) l n) := by
  rw [← sum_regroup fun l n => Cert.KernelIdeal.Blocks.dist (sortedAt (projOf w x) l n) (sortedAt (projOf w y) l n)]
  refine Finset.sum_congr rfl fun b _ => ?_
  unfold blockSum
  refine Finset.sum_congr rfl fun r _ => Finset.sum_congr rfl fun n _ => ?_
  rw [sortedOf_apply]

section
open Cert.KernelIdeal Cert.KernelIdeal.Gen

/-- The kernel program's result is the reference's formula of the same arguments. -/
theorem result_eq (m : (ℓ : Loc nD τ sig) → Buf (Elt Ideal) ℓ) (ρ : Dev nD → PrngReg) (c : Dev nD)
    (x y : FVec Ideal S131072x64 .f32) (w : FVec Ideal S64x64 .f32)
    (hx : x = m ((c : Thread nD τ).loc main_arg0)) (hy : y = m ((c : Thread nD τ).loc main_arg1))
    (hw : w = m ((c : Thread nD τ).loc main_arg2)) :
    Host.divf (F := Ideal) (Host.reduceAdd (Host.absf (subf
        (Host.sort Cert.ReferenceIdeal.S131072x64 0 (Cert.ReferenceIdeal.comparator_f32_d0 (F := Ideal)) (proj w x))
        (Host.sort Cert.ReferenceIdeal.S131072x64 0 (Cert.ReferenceIdeal.comparator_f32_d0 (F := Ideal)) (proj w y))))
      (constant Cert.ReferenceIdeal.S_ .f32 0x00000000#32) Cert.ReferenceIdeal.Facts₀.reducesTo_S131072x64_S_d0_1
      Cert.ReferenceIdeal.Facts₀.h_S_) (constant Cert.ReferenceIdeal.S_ .f32 0x4B000000#32)
      = W4 m ρ c (Proc.devRef .tc main_v6) := by
  rw [total_eq, Cert.KernelIdeal.Tail.value, ← sums_eq, hx, hy, hw]
end

/-- From memories that hold the same arguments both programs end with the same result and leave the arguments alone. -/
theorem algebraic : Cert.algebraic_KernelIdeal_ReferenceIdeal := by
  intro m g m' g' _ hm
  refine ⟨fun c => Cert.KernelIdeal.Gen.W4 m g c (Proc.devRef .tc Cert.KernelIdeal.main_v6), Cert.KernelIdeal.Run.result m g, ?_⟩
  refine (θ_run _ _ _).mono (fun r h c => ⟨(h c).1.trans ?_, (h c).2⟩) (Cert.ReferenceIdeal.Value.run m' g')
  exact result_eq m g c _ _ _ (hm c).1 (hm c).2.1 (hm c).2.2

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The certificate's claims: each program runs and leaves its arguments and its counters alone, the idealized kernel is
    the kernel's own text, and in the extended reals the kernel and the reference end with the same result. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => (θ_run _ _ _).mono (fun r h => ⟨fun c => (h c).2, sem_eq_zero_of_no_sems (by decide) r.2⟩)
    (Cert.ReferenceIdeal.Value.run m g), trivial, Cert.Equation.algebraic⟩

end Cert.Proof

end
